-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x16384 : Shape := ⟨3, ![4, 1024, 16384]⟩
abbrev S4x1024 : Shape := ⟨2, ![4, 1024]⟩
abbrev S16384x3072 : Shape := ⟨2, ![16384, 3072]⟩
abbrev S3072 : Shape := ⟨1, ![3072]⟩
abbrev S16384x16 : Shape := ⟨2, ![16384, 16]⟩
abbrev S16x3072 : Shape := ⟨2, ![16, 3072]⟩
abbrev S_ : Shape := ⟨0, ![]⟩

class Facts : Prop where
  bcast_S_S4x1024x16384 : S_.BroadcastsInDim S4x1024x16384 (![] : Fin 0 → Fin S4x1024x16384.rank)
  bcast_S_S4x1024 : S_.BroadcastsInDim S4x1024 (![] : Fin 0 → Fin S4x1024.rank)
  bcast_S_S16384x16 : S_.BroadcastsInDim S16384x16 (![] : Fin 0 → Fin S16384x16.rank)

variable [Facts]

def fn {F : FTy → Type} [FloatOps F] (main_arg0 : IVec S4x1024x16384 8) (main_arg1 : FVec F S4x1024 .f32) (main_arg2 : FVec F S16384x3072 .fp8e4m3) (main_arg3 : FVec F S3072 .f32) (main_arg4 : FVec F S16384x16 .bf16) (main_arg5 : FVec F S16x3072 .bf16) : IVec S4x1024x16384 1 × IVec S4x1024 1 × IVec S16384x16 1 :=
  let main_c : IVec S_ 8 := constantI S_ 8 127#8
  let main_v0 : IVec S4x1024x16384 8 := broadcastInDim S4x1024x16384 ![] bcast_S_S4x1024x16384 main_c
  let main_v1 : IVec S4x1024x16384 1 := cmpi .ne main_arg0 main_v0
  let main_c_0 : IVec S_ 8 := constantI S_ 8 255#8
  let main_v2 : IVec S4x1024x16384 8 := broadcastInDim S4x1024x16384 ![] bcast_S_S4x1024x16384 main_c_0
  let main_v3 : IVec S4x1024x16384 1 := cmpi .ne main_arg0 main_v2
  let main_v4 : IVec S4x1024x16384 1 := andi main_v1 main_v3
  let main_v5 : FVec F S4x1024 .f32 := Host.absf main_arg1
  let main_cst : FVec F S_ .f32 := constant S_ .f32 0x7F800000#32
  let main_v6 : FVec F S4x1024 .f32 := broadcastInDim S4x1024 ![] bcast_S_S4x1024 main_cst
  let main_v7 : IVec S4x1024 1 := cmpf .olt main_v5 main_v6
  let main_v8 : FVec F S16384x16 .bf16 := Host.absf main_arg4
  let main_cst_1 : FVec F S_ .bf16 := constant S_ .bf16 0x7F80#16
  let main_v9 : FVec F S16384x16 .bf16 := broadcastInDim S16384x16 ![] bcast_S_S16384x16 main_cst_1
  let main_v10 : IVec S16384x16 1 := cmpf .olt main_v8 main_v9
  (main_v4, main_v7, main_v10)
-- ==== Kernel.lean ====
abbrev S4x1024x16384 : Shape := ⟨3, ![4, 1024, 16384]⟩
abbrev S4x1024 : Shape := ⟨2, ![4, 1024]⟩
abbrev S16384x3072 : Shape := ⟨2, ![16384, 3072]⟩
abbrev S3072 : Shape := ⟨1, ![3072]⟩
abbrev S16384x16 : Shape := ⟨2, ![16384, 16]⟩
abbrev S16x3072 : Shape := ⟨2, ![16, 3072]⟩
abbrev S48x3072 : Shape := ⟨2, ![48, 3072]⟩
abbrev S4096x16384 : Shape := ⟨2, ![4096, 16384]⟩
abbrev S4096x1 : Shape := ⟨2, ![4096, 1]⟩
abbrev S1x3072 : Shape := ⟨2, ![1, 3072]⟩
abbrev S16x16384 : Shape := ⟨2, ![16, 16384]⟩
abbrev S4096x3072 : Shape := ⟨2, ![4096, 3072]⟩
abbrev S4096x16 : Shape := ⟨2, ![4096, 16]⟩
abbrev S512x16384 : Shape := ⟨2, ![512, 16384]⟩
abbrev S512x1 : Shape := ⟨2, ![512, 1]⟩
abbrev S16384x512 : Shape := ⟨2, ![16384, 512]⟩
abbrev S1x512 : Shape := ⟨2, ![1, 512]⟩
abbrev S48x512 : Shape := ⟨2, ![48, 512]⟩
abbrev S512x512 : Shape := ⟨2, ![512, 512]⟩
abbrev S512x16 : Shape := ⟨2, ![512, 16]⟩
abbrev S512x48 : Shape := ⟨2, ![512, 48]⟩
abbrev S16x512 : Shape := ⟨2, ![16, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x1024x16384, .i8⟩
  | .hbm, ⟨1, _⟩ => ⟨S4x1024, .f32⟩
  | .hbm, ⟨2, _⟩ => ⟨S16384x3072, .fp8e4m3⟩
  | .hbm, ⟨3, _⟩ => ⟨S3072, .f32⟩
  | .hbm, ⟨4, _⟩ => ⟨S16384x16, .bf16⟩
  | .hbm, ⟨5, _⟩ => ⟨S16x3072, .bf16⟩
  | .hbm, ⟨6, _⟩ => ⟨S4x1024x16384, .fp8e4m3⟩
  | .hbm, ⟨7, _⟩ => ⟨S48x3072, .bf16⟩
  | .hbm, ⟨8, _⟩ => ⟨S4096x16384, .fp8e4m3⟩
  | .hbm, ⟨9, _⟩ => ⟨S4096x1, .f32⟩
  | .hbm, ⟨10, _⟩ => ⟨S1x3072, .f32⟩
  | .hbm, ⟨11, _⟩ => ⟨S16x16384, .bf16⟩
  | .hbm, ⟨12, _⟩ => ⟨S4096x3072, .bf16⟩
  | .hbm, ⟨13, _⟩ => ⟨S4096x16, .f32⟩
  | .local _ .vmem, ⟨0, _⟩ => ⟨S512x16384, .fp8e4m3⟩
  | .local _ .vmem, ⟨1, _⟩ => ⟨S512x16384, .fp8e4m3⟩
  | .local _ .vmem, ⟨2, _⟩ => ⟨S512x1, .f32⟩
  | .local _ .vmem, ⟨3, _⟩ => ⟨S512x1, .f32⟩
  | .local _ .vmem, ⟨4, _⟩ => ⟨S16384x512, .fp8e4m3⟩
  | .local _ .vmem, ⟨5, _⟩ => ⟨S16384x512, .fp8e4m3⟩
  | .local _ .vmem, ⟨6, _⟩ => ⟨S1x512, .f32⟩
  | .local _ .vmem, ⟨7, _⟩ => ⟨S1x512, .f32⟩
  | .local _ .vmem, ⟨8, _⟩ => ⟨S16x16384, .bf16⟩
  | .local _ .vmem, ⟨9, _⟩ => ⟨S48x512, .bf16⟩
  | .local _ .vmem, ⟨10, _⟩ => ⟨S48x512, .bf16⟩
  | .local _ .vmem, ⟨11, _⟩ => ⟨S512x512, .bf16⟩
  | .local _ .vmem, ⟨12, _⟩ => ⟨S512x512, .bf16⟩
  | .local _ .vmem, ⟨13, _⟩ => ⟨S512x16, .f32⟩
  | .local _ .vmem, ⟨14, _⟩ => ⟨S512x16, .f32⟩
  | .local _ .vmem, ⟨15, _⟩ => ⟨S512x48, .bf16⟩
  | _, _ => ⟨S4x1024x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S48x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x1024x16384 : Shape := ⟨3, ![4, 1024, 16384]⟩
abbrev S4x1024 : Shape := ⟨2, ![4, 1024]⟩
abbrev S16384x3072 : Shape := ⟨2, ![16384, 3072]⟩
abbrev S3072 : Shape := ⟨1, ![3072]⟩
abbrev S16384x16 : Shape := ⟨2, ![16384, 16]⟩
abbrev S16x3072 : Shape := ⟨2, ![16, 3072]⟩
abbrev S4096x16384 : Shape := ⟨2, ![4096, 16384]⟩
abbrev S4096x1 : Shape := ⟨2, ![4096, 1]⟩
abbrev S1x3072 : Shape := ⟨2, ![1, 3072]⟩
abbrev S4096x3072 : Shape := ⟨2, ![4096, 3072]⟩
abbrev S4096x16 : Shape := ⟨2, ![4096, 16]⟩

abbrev nBuf : Space → Nat
  | .hbm => 12
  | .vmem => 8
  | .smem => 0
  | _ => 0

abbrev bufTy : (tb : Table) → Fin (tcTables nBuf tb) → BufTy
  | .hbm, ⟨0, _⟩ => ⟨S4x1024x16384, .i8⟩
  | .hbm, ⟨1, _⟩ => ⟨S4x1024, .f32⟩
  | .hbm, ⟨2, _⟩ => ⟨S16384x3072, .fp8e4m3⟩
  | .hbm, ⟨3, _⟩ => ⟨S3072, .f32⟩
  | .hbm, ⟨4, _⟩ => ⟨S16384x16, .bf16⟩
  | .hbm, ⟨5, _⟩ => ⟨S16x3072, .bf16⟩
  | .hbm, ⟨6, _⟩ => ⟨S4x1024x16384, .fp8e4m3⟩
  | .hbm, ⟨7, _⟩ => ⟨S4096x16384, .fp8e4m3⟩
  | .hbm, ⟨8, _⟩ => ⟨S4096x1, .f32⟩
  | .hbm, ⟨9, _⟩ => ⟨S1x3072, .f32⟩
  | .hbm, ⟨10, _⟩ => ⟨S4096x3072, .bf16⟩
  | .hbm, ⟨11, _⟩ => ⟨S4096x16, .f32⟩
  | .local _ .vmem, ⟨0, _⟩ => ⟨S4096x16384, .fp8e4m3⟩
  | .local _ .vmem, ⟨1, _⟩ => ⟨S4096x1, .f32⟩
  | .local _ .vmem, ⟨2, _⟩ => ⟨S16384x3072, .fp8e4m3⟩
  | .local _ .vmem, ⟨3, _⟩ => ⟨S1x3072, .f32⟩
  | .local _ .vmem, ⟨4, _⟩ => ⟨S16384x16, .bf16⟩
  | .local _ .vmem, ⟨5, _⟩ => ⟨S16x3072, .bf16⟩
  | .local _ .vmem, ⟨6, _⟩ => ⟨S4096x3072, .bf16⟩
  | .local _ .vmem, ⟨7, _⟩ => ⟨S4096x16, .f32⟩
  | _, _ => ⟨S4x1024x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kern.Run.lean ====
/- What one call of the kernel body does. The body is met in two cases: at the first point of a row of the grid
   (`cond0_0`) it stores the low-rank factor `x·a` and its three-term split, elsewhere it only reads the split a
   previous point left in the scratch. In both it stores its block of `y`. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-! ## The memrefs the body runs on -/

/-- Each window's current staging memref at point `t`, spelled as the pipeline passes it (`bodyAt0`), and its wholeness. -/
abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x16384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x48 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's two cases -/

/-- At the first point of a row the body leaves `x·a` (`k0_pay1`) in the second output's buffer, its split (`k0_pay2`) in
    the scratch and the block of `y` computed from that split (`k0_pay3`) in the first output's. -/
theorem runFirst (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S16x16384 .bf16) (harg6 : arg6.IsWhole) (arg7 : Memref sig .tc .vmem S48x512 .bf16) (harg7 : arg7.IsWhole) (arg8 : Memref sig .tc .vmem S512x512 .bf16) (harg8 : arg8.IsWhole) (arg9 : Memref sig .tc .vmem S512x16 .f32) (harg9 : arg9.IsWhole) (arg10 : Memref sig .tc .vmem S512x48 .bf16) (harg10 : arg10.IsWhole) (hc0 : cond0_0 i)
    (x0 : Vec F S512x16384 .fp8e4m3) (x1 : Vec F S512x1 .f32) (x2 : Vec F S16384x512 .fp8e4m3) (x3 : Vec F S1x512 .f32) (x4 : Vec F S16x16384 .bf16) (x5 : Vec F S48x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 x2 (k0_pay2 x4 x0 x1) x5 x1 x3) ∗ owns (c : Thread nD τ) arg9 fullShare (k0_pay1 x4 x0 x1) ∗ owns (c : Thread nD τ) arg10 fullShare (k0_pay2 x4 x0 x1)) -∗ K ⟨⟩))
      ⊢ wp frame (wpE (defs₀ (F := F)) Variants.none c none) E (cc0_lora_fp8 i arg2 harg2 arg3 harg3 arg4 harg4 arg5 harg5 arg6 harg6 arg7 harg7 arg8 harg8 arg9 harg9 arg10 harg10) K := by
  simp only [cc0_lora_fp8_eq_skeleton]; unfold cc0_lora_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  have e0 : ∀ inb, View.readAt (Elt F) arg2.view (Rect.unit (s := S512x16384) ![0, 0] ![512, 16384] inb).toLoadRect (harg2.unread x0) = x0 :=
    fun inb => (View.readAt_full (s := S512x16384) arg2.view _ inb).trans (harg2.read_unread _)
  have e1 : ∀ inb, View.readAt (Elt F) arg3.view (Rect.unit (s := S512x1) ![0, 0] ![512, 1] inb).toLoadRect (harg3.unread x1) = x1 :=
    fun inb => (View.readAt_full (s := S512x1) arg3.view _ inb).trans (harg3.read_unread _)
  have e2 : ∀ inb, View.readAt (Elt F) arg4.view (Rect.unit (s := S16384x512) ![0, 0] ![16384, 512] inb).toLoadRect (harg4.unread x2) = x2 :=
    fun inb => (View.readAt_full (s := S16384x512) arg4.view _ inb).trans (harg4.read_unread _)
  have e3 : ∀ inb, View.readAt (Elt F) arg5.view (Rect.unit (s := S1x512) ![0, 0] ![1, 512] inb).toLoadRect (harg5.unread x3) = x3 :=
    fun inb => (View.readAt_full (s := S1x512) arg5.view _ inb).trans (harg5.read_unread _)
  have e4 : ∀ inb, View.readAt (Elt F) arg6.view (Rect.unit (s := S16x16384) ![0, 0] ![16, 16384] inb).toLoadRect (harg6.unread x4) = x4 :=
    fun inb => (View.readAt_full (s := S16x16384) arg6.view _ inb).trans (harg6.read_unread _)
  have e5 : ∀ inb, View.readAt (Elt F) arg7.view (Rect.unit (s := S48x512) ![0, 0] ![48, 512] inb).toLoadRect (harg7.unread x5) = x5 :=
    fun inb => (View.readAt_full (s := S48x512) arg7.view _ inb).trans (harg7.read_unread _)
  have es : ∀ inb inb' w L, View.readCov (Val := Elt F) arg10.view (⟨Rect.unit (s := S512x48) ![0, 0] ![512, 48] inb', w⟩ :: L) (Rect.unit (s := S512x48) ![0, 0] ![512, 48] inb).toLoadRect = w :=
    fun inb inb' w L => View.readCov_full (s := S512x48) arg10.view inb inb' w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    sl_unfold_words
    simp only [e0, e1, e2, e3, e4, e5, es]
  isplitl [H7]
  · iexists _; isplitr; swap; · iexact H7
    ipureintro
    refine (View.read_writes_full _ _ _ _ _).trans ?_
    simp only [e0, e1, e2, e3, e4, e5, es]
  iexists _; isplitr; swap; · iexact HS0
  ipureintro
  refine (View.read_writes_full _ _ _ _ _).trans ?_
  simp only [e0, e1, e2, e3, e4, e5, es]

/-- At any other point the body leaves its block of `y`, computed from the split it finds in the scratch, and nothing
    else: the second output's buffer and the scratch stay as they were. -/
theorem runLater (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S16x16384 .bf16) (harg6 : arg6.IsWhole) (arg7 : Memref sig .tc .vmem S48x512 .bf16) (harg7 : arg7.IsWhole) (arg8 : Memref sig .tc .vmem S512x512 .bf16) (harg8 : arg8.IsWhole) (arg9 : Memref sig .tc .vmem S512x16 .f32) (harg9 : arg9.IsWhole) (arg10 : Memref sig .tc .vmem S512x48 .bf16) (harg10 : arg10.IsWhole) (hc0 : ¬cond0_0 i)
    (x0 : Vec F S512x16384 .fp8e4m3) (x1 : Vec F S512x1 .f32) (x2 : Vec F S16384x512 .fp8e4m3) (x3 : Vec F S1x512 .f32) (x4 : Vec F S16x16384 .bf16) (x5 : Vec F S48x512 .bf16) (x7 : Vec F S512x16 .f32) (xs : Vec F S512x48 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 x2 xs x5 x1 x3) ∗ owns (c : Thread nD τ) arg9 fullShare x7 ∗ owns (c : Thread nD τ) arg10 fullShare xs) -∗ K ⟨⟩))
      ⊢ wp frame (wpE (defs₀ (F := F)) Variants.none c none) E (cc0_lora_fp8 i arg2 harg2 arg3 harg3 arg4 harg4 arg5 harg5 arg6 harg6 arg7 harg7 arg8 harg8 arg9 harg9 arg10 harg10) K := by
  simp only [cc0_lora_fp8_eq_skeleton]; unfold cc0_lora_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
  sl_exec (disch := first | sl_exact hc0)
  sl_step
  have e0 : ∀ inb, View.readAt (Elt F) arg2.view (Rect.unit (s := S512x16384) ![0, 0] ![512, 16384] inb).toLoadRect (harg2.unread x0) = x0 :=
    fun inb => (View.readAt_full (s := S512x16384) arg2.view _ inb).trans (harg2.read_unread _)
  have e1 : ∀ inb, View.readAt (Elt F) arg3.view (Rect.unit (s := S512x1) ![0, 0] ![512, 1] inb).toLoadRect (harg3.unread x1) = x1 :=
    fun inb => (View.readAt_full (s := S512x1) arg3.view _ inb).trans (harg3.read_unread _)
  have e2 : ∀ inb, View.readAt (Elt F) arg4.view (Rect.unit (s := S16384x512) ![0, 0] ![16384, 512] inb).toLoadRect (harg4.unread x2) = x2 :=
    fun inb => (View.readAt_full (s := S16384x512) arg4.view _ inb).trans (harg4.read_unread _)
  have e3 : ∀ inb, View.readAt (Elt F) arg5.view (Rect.unit (s := S1x512) ![0, 0] ![1, 512] inb).toLoadRect (harg5.unread x3) = x3 :=
    fun inb => (View.readAt_full (s := S1x512) arg5.view _ inb).trans (harg5.read_unread _)
  have e4 : ∀ inb, View.readAt (Elt F) arg6.view (Rect.unit (s := S16x16384) ![0, 0] ![16, 16384] inb).toLoadRect (harg6.unread x4) = x4 :=
    fun inb => (View.readAt_full (s := S16x16384) arg6.view _ inb).trans (harg6.read_unread _)
  have e5 : ∀ inb, View.readAt (Elt F) arg7.view (Rect.unit (s := S48x512) ![0, 0] ![48, 512] inb).toLoadRect (harg7.unread x5) = x5 :=
    fun inb => (View.readAt_full (s := S48x512) arg7.view _ inb).trans (harg7.read_unread _)
  have es : ∀ inb, View.readAt (Elt F) arg10.view (Rect.unit (s := S512x48) ![0, 0] ![512, 48] inb).toLoadRect (harg10.unread xs) = xs :=
    fun inb => (View.readAt_full (s := S512x48) arg10.view _ inb).trans (harg10.read_unread _)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    simp only [e0, e1, e2, e3, e4, e5, es]
  isplitl [H7]
  · iexists _; isplitr; · ipureintro; exact hf7
    iexact H7
  iexists _; isplitr; · ipureintro; exact harg10.read_unread _
  iexact HS0

end Cert.KernelIdeal.Kern

end
-- ==== Proof.Kern.Frame.lean ====
/- The run of the kernel, with what it leaves in both outputs. The grid walks a row's six points in turn: the first
   stores the row's `x·a` and its split, the other five leave both in place, so that the block of `x·a` written back
   after the row's last point is the one its first point stored. -/
module

public import proofs.«01_k».proof.Proof.Kern.Run
public import Idealize.ShloMosaic.Lib.Pipeline.TableIdle
public import Idealize.ShloMosaic.Lib.Claim

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the scratch hold -/

/-- The first point of the row point `t` lies in. -/
def rowStart (t : Fin cfg0.N) : Fin cfg0.N := ⟨t.val - t.val % 6, Nat.lt_of_le_of_lt (Nat.sub_le _ _) t.isLt⟩

theorem rowStart_first (t : Fin cfg0.N) (h : t.val % 6 = 0) : rowStart t = t := Fin.ext (by unfold rowStart; dsimp only; omega)

theorem rowStart_later (t : Fin cfg0.N) (h : ¬t.val % 6 = 0) :
    rowStart ⟨t.val - 1, Nat.lt_of_le_of_lt (Nat.sub_le _ _) t.isLt⟩ = rowStart t := Fin.ext (by unfold rowStart; dsimp only; omega)

/-- The block of `x·a` of point `t`'s row. -/
def xaAt (c : Dev nD) (t : Fin cfg0.N) : Vec F S512x16 .f32 :=
  k0_pay1 (iblk m c 4 (rowStart t)) (iblk m c 0 (rowStart t)) (iblk m c 1 (rowStart t))

/-- Its three-term split. -/
def splitAt (c : Dev nD) (t : Fin cfg0.N) : Vec F S512x48 .bf16 :=
  k0_pay2 (iblk m c 4 (rowStart t)) (iblk m c 0 (rowStart t)) (iblk m c 1 (rowStart t))

/-- The block of `y` of point `t`. -/
def yAt (c : Dev nD) (t : Fin cfg0.N) : Vec F S512x512 .bf16 :=
  k0_pay3 (iblk m c 0 t) (iblk m c 2 t) (splitAt m c t) (iblk m c 5 t) (iblk m c 1 t) (iblk m c 3 t)

theorem xaAt_later (c : Dev nD) (t : Fin cfg0.N) (h : ¬t.val % 6 = 0) :
    xaAt m c ⟨t.val - 1, Nat.lt_of_le_of_lt (Nat.sub_le _ _) t.isLt⟩ = xaAt m c t := by
  unfold xaAt; rw [rowStart_later t h]

theorem splitAt_later (c : Dev nD) (t : Fin cfg0.N) (h : ¬t.val % 6 = 0) :
    splitAt m c ⟨t.val - 1, Nat.lt_of_le_of_lt (Nat.sub_le _ _) t.isLt⟩ = splitAt m c t := by
  unfold splitAt; rw [rowStart_later t h]

/-- Before the first point the scratch holds anything; after any point, the split of that point's row. -/
def PhiS (c : Dev nD) : (n : ℕ) → n ≤ cfg0.N → sProp 𝕄
  | 0, _ => Pipeline.ΦA spec0 c
  | n + 1, hn => iprop(iprop(owns (c : Thread nD τ) scM0_0 fullShare (splitAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (splitAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (splitAt m c ⟨n - 1, by omega⟩)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `yAt` and `xaAt`; the invariant the class's
    (`PhiS`: the class's `ΦA` before the first point, then the scoped rest with the carried scratch at the row's split);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => xaAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yAt m c t := by dsimp only [dats]
theorem after0_7 (c : Dev nD) (t : Fin cfg0.N) : (dats m 0 c).after 7 t = xaAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-! ## The second output's buffer across a row -/

/-- The second output is idle — the body stores nothing into it — at the points that are not the first of a row. -/
theorem idle7 (t : Fin cfg0.N) : cfg0.idle 7 (cfg0.grid.coords t) = true ↔ ¬t.val % 6 = 0 := by
  rw [← hcond0_0 t]
  show (!(k0_cond1 (grid0.coords t) == 1#1)) = true ↔ _
  rw [Bool.not_eq_true', beq_eq_false_iff_ne]
  exact Iff.rfl

theorem flush7_false (t : Fin cfg0.N) (h : ¬t.val % 6 = 5) : (cfg0.win 7).flush t = false :=
  Bool.eq_false_iff.mpr fun hf => h ((flush0_7 t).mp hf)

/-- Inside a row the buffer holds something the body stored. -/
theorem fresh7 : ∀ n : ℕ, n < cfg0.N → ¬n % 6 = 0 → cfg0.fresh 7 n = false
  | 0, _, h => absurd rfl h
  | n + 1, hn, h => by
    have hn' : n < cfg0.N := Nat.lt_of_succ_lt hn
    rw [Pipeline.Cfg.fresh_succ cfg0 7 n hn', flush7_false ⟨n, hn'⟩ (by dsimp only; omega), Bool.false_or]
    by_cases h0 : n % 6 = 0
    · have hi : cfg0.idle 7 (cfg0.grid.coords ⟨n, hn'⟩) = false := Bool.eq_false_iff.mpr fun hi => (idle7 ⟨n, hn'⟩).mp hi h0
      rw [hi, Bool.false_and]
    · rw [fresh7 n hn' h0, Bool.and_false]

/-- At a point that is not the first of its row the second output's buffer holds the row's `x·a`. -/
theorem before0_7 (c : Dev nD) (t : Fin cfg0.N) (h0 : ¬t.val % 6 = 0) (d) : (dats m 0 c).before 7 t d = xaAt m c t := by
  rw [(dats m 0 c).before_out_traj 7 rfl (fun _ _ => rfl)
    (fun t _ hi _ => by rw [after0_7, after0_7]; exact (xaAt_later m c t ((idle7 t).mp hi)).symm) t.val t rfl d,
    fresh7 t.val t.isLt h0, if_neg Bool.false_ne_true, after0_7]
  exact xaAt_later m c t h0

/-- What the body leaves in the second output's buffer, as the pipeline asks for it: at the row's `x·a` at every point. -/
theorem leaves7 (c : Dev nD) (t : Fin cfg0.N) :
    owns (c : Thread nD τ) (ms0_7 t) fullShare ((dats m 0 c).after 7 t) ⊢ ((dats m 0 c).leavesExact 7 t : sProp 𝕄) := by
  unfold Pipeline.Dat.leavesExact
  cases hi : cfg0.idle 7 (cfg0.grid.coords t)
  · exact .rfl
  · cases hf : (cfg0.win 7).flush t
    · dsimp only
      rw [after0_7]
      iintro H
      iexists (xaAt m c t)
      rw [before0_7 m c t ((idle7 t).mp hi)]
      iexact H
    · exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: the inputs' memrefs hold their blocks; at the first point of a row it stores the row's `x·a`
    and its split (`runFirst`), at the others it finds both in place (`runLater`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases h0 : t.val % 6 = 0
  · unfold yAt
    have e7 : xaAt m c t = k0_pay1 (iblk m c 4 t) (iblk m c 0 t) (iblk m c 1 t) := by unfold xaAt; rw [rowStart_first t h0]
    have es : splitAt m c t = k0_pay2 (iblk m c 4 t) (iblk m c 0 t) (iblk m c 1 t) := by unfold splitAt; rw [rowStart_first t h0]
    simp only [Fin.eta]
    rw [e7, es]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    rw [PhiS_castSucc m c t, PhiS_pos m c _ _ hz]
    simp only [before0_7 m c t h0, splitAt_later m c t h0, Fin.eta]
    unfold yAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runLater c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (xaAt m c t) (splitAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono .rfl (sep_mono .rfl (sep_mono .rfl (leaves7 m c t)))))))))

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays end unchanged and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Kern

end
-- ==== Proof.Model.lean ====
/- What both programs compute, as arrays over the extended reals: `xa = (x·a)·x_scale` and
   `y = (x·w)·(x_scale·w_scale) + 2·(xa·b)`, with x and the two scales already as matrices. -/
module

public import Idealize.ShloMosaic.Lib.Pointwise
public import Idealize.ShloMosaic.Lib.StableHlo
public import Idealize.ShloMosaic.PureOps

@[expose] public section

noncomputable section

namespace Cert.Model

open Idealize.ShloMosaic

/-- `x·a`, each row times its scale. -/
def xaArr (x : Vec Ideal (⟨2, ![4096, 16384]⟩ : Shape) .fp8e4m3) (s : Vec Ideal (⟨2, ![4096, 1]⟩ : Shape) .f32)
    (a : Vec Ideal (⟨2, ![16384, 16]⟩ : Shape) .bf16) (p : Fin 4096) (q : Fin 16) : EReal :=
  (∑ k : Fin 16384, (x (ix2 p k) : EReal) * (a (ix2 k q) : EReal)) * (s (ix2 p 0) : EReal)

/-- `x·w`, each entry times its row's and its column's scale, plus twice `xa·b`. -/
def yArr (x : Vec Ideal (⟨2, ![4096, 16384]⟩ : Shape) .fp8e4m3) (s : Vec Ideal (⟨2, ![4096, 1]⟩ : Shape) .f32)
    (w : Vec Ideal (⟨2, ![16384, 3072]⟩ : Shape) .fp8e4m3) (ws : Vec Ideal (⟨2, ![1, 3072]⟩ : Shape) .f32)
    (a : Vec Ideal (⟨2, ![16384, 16]⟩ : Shape) .bf16) (b : Vec Ideal (⟨2, ![16, 3072]⟩ : Shape) .bf16)
    (p : Fin 4096) (o : Fin 3072) : EReal :=
  (∑ k : Fin 16384, (x (ix2 p k) : EReal) * (w (ix2 k o) : EReal)) * ((s (ix2 p 0) : EReal) * (ws (ix2 0 o) : EReal))
    + Ideal.ofBits .f32 0x40000000#32 * ∑ q : Fin 16, xaArr x s a p q * (b (ix2 q o) : EReal)

/-! ## Finite values -/

/-- The extended real is a real number. -/
def IsReal (v : EReal) : Prop := ∃ r : ℝ, v = (r : EReal)

theorem IsReal.mul {u v : EReal} (hu : IsReal u) (hv : IsReal v) : IsReal (u * v) := by
  obtain ⟨a, rfl⟩ := hu; obtain ⟨b, rfl⟩ := hv; exact ⟨a * b, (EReal.coe_mul a b).symm⟩

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.sum {n : Nat} (f : Fin n → EReal) (h : ∀ k, IsReal (f k)) : IsReal (∑ k, f k) :=
  Finset.sum_induction f IsReal (fun _ _ => IsReal.add) ⟨0, EReal.coe_zero.symm⟩ fun k _ => h k

theorem IsReal.sub_self {u : EReal} (hu : IsReal u) : u - u = 0 := by
  obtain ⟨a, rfl⟩ := hu; rw [← EReal.coe_sub, _root_.sub_self, EReal.coe_zero]

/-- A magnitude below infinity is a real number's. -/
theorem isReal_of_abs_lt {u : EReal} (h : max u (-u) < ⊤) : IsReal u := by
  induction u using EReal.rec with
  | bot => exact absurd h (by simp)
  | coe r => exact ⟨r, rfl⟩
  | top => exact absurd h (by simp)

/-- Every fp8 code that is not one of the two NaN codes is a real number's. -/
theorem isReal_e4m3fn (b : BitVec 8) (h1 : b ≠ 127#8) (h2 : b ≠ 255#8) : IsReal (Ideal.e4m3fn b) := by
  have key : ∀ b : BitVec 8, b ≠ 127#8 → b ≠ 255#8 → ¬((b.extractLsb' 3 4).toNat = 15 ∧ (b.extractLsb' 0 3).toNat = 7) := by decide +kernel
  unfold Ideal.e4m3fn
  dsimp only
  rw [if_neg (key b h1 h2)]
  split
  · exact ⟨_, rfl⟩
  · exact ⟨_, rfl⟩

/-- `xa` is real where x, its scales and a are. -/
theorem isReal_xaArr (x : Vec Ideal (⟨2, ![4096, 16384]⟩ : Shape) .fp8e4m3) (s : Vec Ideal (⟨2, ![4096, 1]⟩ : Shape) .f32)
    (a : Vec Ideal (⟨2, ![16384, 16]⟩ : Shape) .bf16) (hx : ∀ p k, IsReal (x (ix2 p k))) (hs : ∀ p, IsReal (s (ix2 p 0)))
    (ha : ∀ k q, IsReal (a (ix2 k q))) (p : Fin 4096) (q : Fin 16) : IsReal (xaArr x s a p q) :=
  (IsReal.sum _ fun k => (hx p k).mul (ha k q)).mul (hs p)

end Cert.Model

end
-- ==== Proof.Finite.lean ====
/- What the precondition says of one element: x's fp8 value, the scale of a row and an entry of a are real numbers. -/
module

public import proofs.«01_k».proof.Pre_finite
public import proofs.«01_k».proof.Proof.Model

@[expose] public section

set_option maxRecDepth 16384

noncomputable section

namespace Cert.Pre_finite

open Cert.Model Idealize.ShloMosaic

theorem facts : Facts where
  bcast_S_S4x1024x16384 := by decide
  bcast_S_S4x1024 := by decide
  bcast_S_S16384x16 := by decide

instance : Facts := facts

variable (x : IVec S4x1024x16384 8) (s : FVec Ideal S4x1024 .f32) (w : FVec Ideal S16384x3072 .fp8e4m3)
  (ws : FVec Ideal S3072 .f32) (a : FVec Ideal S16384x16 .bf16) (b : FVec Ideal S16x3072 .bf16)

theorem ofBits_inf_f32 : Ideal.ofBits .f32 2139095040#32 = (⊤ : EReal) := by simp [Ideal.ofBits, Ideal.ieee]

theorem ofBits_inf_bf16 : Ideal.ofBits .bf16 32640#16 = (⊤ : EReal) := by simp [Ideal.ofBits, Ideal.ieee]

theorem lt_of_ofBool {p : Prop} [Decidable p] (h : BitVec.ofBool (decide p) = 1#1) : p := by
  by_contra hp
  rw [decide_eq_false hp] at h
  exact absurd h (by decide)

theorem isReal_x (h : (fn (F := Ideal) x s w ws a b).1 = fun _ => 1#1) (i : S4x1024x16384.Idx) :
    IsReal (bitcastToFloat (F := Ideal) .fp8e4m3 x i) := by
  have h' := congrFun h i
  pointwise [fn] at h'
  refine isReal_e4m3fn (x i) ?_ ?_
  · intro e; rw [e] at h'; generalize IntOp.cmpi CmpIPredicate.ne 127#8 255#8 = u at h'; revert u; decide
  · intro e; rw [e] at h'; revert h'; decide

theorem isReal_s (h : (fn (F := Ideal) x s w ws a b).2.1 = fun _ => 1#1) (i : S4x1024.Idx) : IsReal (s i) := by
  have h' := congrFun h i
  pointwise [fn] at h'
  refine isReal_of_abs_lt ?_
  rw [ofBits_inf_f32] at h'
  exact lt_of_ofBool h'

theorem isReal_a (h : (fn (F := Ideal) x s w ws a b).2.2 = fun _ => 1#1) (i : S16384x16.Idx) : IsReal (a i) := by
  have h' := congrFun h i
  pointwise [fn] at h'
  refine isReal_of_abs_lt ?_
  rw [ofBits_inf_bf16] at h'
  exact lt_of_ofBool h'

end Cert.Pre_finite

end
-- ==== Proof.Kern.Value.lean ====
/- What the kernel leaves in its two results, over the extended reals: `xa` and `y` of the model. The result `xa` is
   stored at the first point of a row of the grid and read back, split in three terms, at the later ones; where it is
   real the three terms add up to it again. -/
module

public import proofs.«01_k».proof.Proof.Model
public import proofs.«01_k».proof.Proof.Kern.Frame
public import Idealize.ShloMosaic.Lib.Pointwise
public import Idealize.ShloMosaic.Lib.Pipeline.ValueKit

@[expose] public section

set_option maxRecDepth 16384

noncomputable section

namespace Cert.KernelIdeal.Kern

open Cert.KernelIdeal.Gen Cert.Model
open Idealize.ShloMosaic Idealize.ShloMosaic.TcCoe Idealize.SL.Sem
open Idealize.ShloMosaic.Pipeline (Dat)

/-! ## The body's three values at an index -/

theorem pay1_apply (a : Vec Ideal S16x16384 .bf16) (x : Vec Ideal S512x16384 .fp8e4m3) (s : Vec Ideal S512x1 .f32) (p : Fin 512) (q : Fin 16) :
    k0_pay1 a x s (ix2 p q) = (∑ k : Fin 16384, (a (ix2 q k) : EReal) * (x (ix2 p k) : EReal)) * (s (ix2 p 0) : EReal) := by
  pointwise [k0_pay1]

theorem pay2_apply_first (a : Vec Ideal S16x16384 .bf16) (x : Vec Ideal S512x16384 .fp8e4m3) (s : Vec Ideal S512x1 .f32) (p : Fin 512) (q : Fin 16) :
    k0_pay2 a x s (ix2 p ⟨q.val, by omega⟩) = k0_pay1 a x s (ix2 p q) := by
  have hq := q.isLt
  unfold k0_pay2
  generalize k0_pay1 a x s = u
  rw [shapeCast_self, concatenate_cons_apply]
  pointwise

theorem pay2_apply_rest (a : Vec Ideal S16x16384 .bf16) (x : Vec Ideal S512x16384 .fp8e4m3) (s : Vec Ideal S512x1 .f32) (p : Fin 512) (q : Fin 48)
    (hq : 16 ≤ q.val) (hu : ∀ q : Fin 16, IsReal (k0_pay1 a x s (ix2 p q))) :
    k0_pay2 a x s (ix2 p q) = (0 : EReal) := by
  unfold k0_pay2
  generalize k0_pay1 a x s = u at hu ⊢
  rw [shapeCast_self, concatenate_cons_apply]
  pointwise
  rw [dif_neg (Nat.not_lt.mpr hq)]
  split
  · exact (hu _).sub_self
  · rw [(hu _).sub_self]; exact IsReal.sub_self ⟨0, EReal.coe_zero.symm⟩

/-- A sum over 48 of which the last 32 are zero. -/
theorem sum48 (f : Fin 48 → EReal) (g : Fin 16 → EReal) (h0 : ∀ q : Fin 16, f ⟨q.val, by omega⟩ = g q)
    (h1 : ∀ q : Fin 48, 16 ≤ q.val → f q = 0) : ∑ q, f q = ∑ q, g q := by
  rw [show ∑ q, f q = _ from Fin.sum_univ_add (a := 16) (b := 32) f]
  rw [Finset.sum_eq_zero (s := (Finset.univ : Finset (Fin 32))) (fun q _ => h1 _ (by simp)), add_zero]
  exact Finset.sum_congr rfl fun q _ => h0 q

theorem pay3_apply (x : Vec Ideal S512x16384 .fp8e4m3) (w : Vec Ideal S16384x512 .fp8e4m3) (t : Vec Ideal S512x48 .bf16)
    (b : Vec Ideal S48x512 .bf16) (s : Vec Ideal S512x1 .f32) (ws : Vec Ideal S1x512 .f32) (p : Fin 512) (o : Fin 512) :
    k0_pay3 x w t b s ws (ix2 p o) = (∑ k : Fin 16384, (x (ix2 p k) : EReal) * (w (ix2 k o) : EReal)) * ((s (ix2 p 0) : EReal) * (ws (ix2 0 o) : EReal))
      + Ideal.ofBits .f32 0x40000000#32 * ∑ q : Fin 48, (t (ix2 p q) : EReal) * (b (ix2 q o) : EReal) := by
  pointwise [k0_pay3]

variable (m : (ℓ : Loc nD τ sig) → Buf (Elt Ideal) ℓ) (ρ : Dev nD → PrngReg)

/-! ## The arrays the pipeline reads -/

theorem V_main_v2 (c : Dev nD) : V m c main_v2 = shapeCast S4096x16384 (bitcastToFloat (F := Ideal) .fp8e4m3 (m ((c : Thread nD τ).loc main_arg0))) shapeCasts_S4x1024x16384_S4096x16384 := by
  entry_read; rfl
theorem V_main_v3 (c : Dev nD) : V m c main_v3 = shapeCast S4096x1 (m ((c : Thread nD τ).loc main_arg1)) shapeCasts_S4x1024_S4096x1 := by
  entry_read; rfl
theorem V_main_v4 (c : Dev nD) : V m c main_v4 = shapeCast S1x3072 (m ((c : Thread nD τ).loc main_arg3)) shapeCasts_S3072_S1x3072 := by
  entry_read; rfl
theorem V_main_v5 (c : Dev nD) : V m c main_v5 = transpose S16x16384 [1, 0] (m ((c : Thread nD τ).loc main_arg4)) transposes_S16384x16_S16x16384_1_0 := by
  entry_read; rfl
theorem V_main_v1 (c : Dev nD) : V m c main_v1 = concatenate S48x3072 0
    [⟨S16x3072, m ((c : Thread nD τ).loc main_arg5)⟩, ⟨S16x3072, m ((c : Thread nD τ).loc main_arg5)⟩, ⟨S16x3072, m ((c : Thread nD τ).loc main_arg5)⟩]
      concatenates_S16x3072_S16x3072_S16x3072_S48x3072_d0 := by
  entry_read; rfl

theorem v5_apply (c : Dev nD) (q : Fin 16) (k : Fin 16384) :
    (V m c main_v5 : Vec Ideal S16x16384 .bf16) (ix2 q k) = (m ((c : Thread nD τ).loc main_arg4) : Vec Ideal S16384x16 .bf16) (ix2 k q) := by
  rw [V_main_v5]
  pointwise

theorem v1_apply (c : Dev nD) (q : Fin 16) (o : Fin 3072) :
    (V m c main_v1 : Vec Ideal S48x3072 .bf16) (ix2 ⟨q.val, by omega⟩ o) = (m ((c : Thread nD τ).loc main_arg5) : Vec Ideal S16x3072 .bf16) (ix2 q o) := by
  have hq := q.isLt
  rw [V_main_v1]
  pointwise

/-! ## The windows' blocks at an index -/

theorem idx : ∀ t : Fin cfg0.N, win0_0.index t = ![t.val / 6, 0] ∧ win0_1.index t = ![t.val / 6, 0] ∧ win0_2.index t = ![0, t.val % 6]
    ∧ win0_3.index t = ![0, t.val % 6] ∧ win0_4.index t = ![0, 0] ∧ win0_5.index t = ![0, t.val % 6]
    ∧ win0_6.index t = ![t.val / 6, t.val % 6] ∧ win0_7.index t = ![t.val / 6, 0] :=
  (by decide +kernel : ∀ t : Fin grid0.N, win0_0.index t = ![t.val / 6, 0] ∧ win0_1.index t = ![t.val / 6, 0] ∧ win0_2.index t = ![0, t.val % 6]
    ∧ win0_3.index t = ![0, t.val % 6] ∧ win0_4.index t = ![0, 0] ∧ win0_5.index t = ![0, t.val % 6]
    ∧ win0_6.index t = ![t.val / 6, t.val % 6] ∧ win0_7.index t = ![t.val / 6, 0])

theorem N48 : cfg0.N = 48 := N_0

/-- Row `p` of point `t`'s row block, in the whole array. -/
def row (t : Fin cfg0.N) (p : Fin 512) : Fin 4096 := ⟨t.val / 6 * 512 + p.val, by have := t.isLt; have := N48; omega⟩

/-- Column `o` of point `t`'s column block, in the whole array. -/
def col (t : Fin cfg0.N) (o : Fin 512) : Fin 3072 := ⟨t.val % 6 * 512 + o.val, by omega⟩

theorem row_rowStart (t : Fin cfg0.N) (p : Fin 512) : row (rowStart t) p = row t p := by
  apply Fin.ext; unfold row rowStart; dsimp only; omega

theorem iblk0_apply (c : Dev nD) (t : Fin cfg0.N) (p : Fin 512) (k : Fin 16384) :
    (iblk m c 0 t : Vec Ideal S512x16384 .fp8e4m3) (ix2 p k) = (V m c main_v2 : Vec Ideal S4096x16384 .fp8e4m3) (ix2 (row t p) k) := by
  obtain ⟨e0, e1, e2, e3, e4, e5, e6, e7⟩ := idx t
  blk_ext [iblk, e0, row]

theorem iblk1_apply (c : Dev nD) (t : Fin cfg0.N) (p : Fin 512) :
    (iblk m c 1 t : Vec Ideal S512x1 .f32) (ix2 p 0) = (V m c main_v3 : Vec Ideal S4096x1 .f32) (ix2 (row t p) 0) := by
  obtain ⟨e0, e1, e2, e3, e4, e5, e6, e7⟩ := idx t
  blk_ext [iblk, e1, row]

theorem iblk2_apply (c : Dev nD) (t : Fin cfg0.N) (k : Fin 16384) (o : Fin 512) :
    (iblk m c 2 t : Vec Ideal S16384x512 .fp8e4m3) (ix2 k o) = (V m c main_arg2 : Vec Ideal S16384x3072 .fp8e4m3) (ix2 k (col t o)) := by
  obtain ⟨e0, e1, e2, e3, e4, e5, e6, e7⟩ := idx t
  blk_ext [iblk, e2, col]

theorem iblk3_apply (c : Dev nD) (t : Fin cfg0.N) (o : Fin 512) :
    (iblk m c 3 t : Vec Ideal S1x512 .f32) (ix2 0 o) = (V m c main_v4 : Vec Ideal S1x3072 .f32) (ix2 0 (col t o)) := by
  obtain ⟨e0, e1, e2, e3, e4, e5, e6, e7⟩ := idx t
  blk_ext [iblk, e3, col]

theorem iblk4_apply (c : Dev nD) (t : Fin cfg0.N) (q : Fin 16) (k : Fin 16384) :
    (iblk m c 4 t : Vec Ideal S16x16384 .bf16) (ix2 q k) = (V m c main_v5 : Vec Ideal S16x16384 .bf16) (ix2 q k) := by
  obtain ⟨e0, e1, e2, e3, e4, e5, e6, e7⟩ := idx t
  blk_ext [iblk, e4]

theorem iblk5_apply (c : Dev nD) (t : Fin cfg0.N) (q : Fin 48) (o : Fin 512) :
    (iblk m c 5 t : Vec Ideal S48x512 .bf16) (ix2 q o) = (V m c main_v1 : Vec Ideal S48x3072 .bf16) (ix2 q (col t o)) := by
  obtain ⟨e0, e1, e2, e3, e4, e5, e6, e7⟩ := idx t
  blk_ext [iblk, e5, col]

/-! ## The two results -/

variable (c : Dev nD)

/-- The `xa` of the whole array, from the arrays the pipeline reads. -/
abbrev xaK (p : Fin 4096) (q : Fin 16) : EReal := xaArr (V m c main_v2) (V m c main_v3) (m ((c : Thread nD τ).loc main_arg4)) p q

theorem pay1_block (t : Fin cfg0.N) (p : Fin 512) (q : Fin 16) :
    k0_pay1 (iblk m c 4 t) (iblk m c 0 t) (iblk m c 1 t) (ix2 p q) = xaK m c (row t p) q := by
  refine (pay1_apply _ _ _ p q).trans ?_
  unfold xaK xaArr
  refine congrArg₂ (fun u v : EReal => u * v) (Finset.sum_congr rfl fun k _ => ?_) (iblk1_apply m c t p)
  rw [mul_comm]
  exact congrArg₂ (fun u v : EReal => u * v) (iblk0_apply m c t p k) ((iblk4_apply m c t q k).trans (v5_apply m c q k))

theorem xaAt_apply (t : Fin cfg0.N) (p : Fin 512) (q : Fin 16) : xaAt m c t (ix2 p q) = xaK m c (row t p) q := by
  unfold xaAt
  rw [pay1_block, row_rowStart]

theorem up_apply (h : ∀ p q, IsReal (xaK m c p q)) (t : Fin cfg0.N) (p : Fin 512) (o : Fin 512) :
    ∑ q : Fin 48, (splitAt m c t (ix2 p q) : EReal) * ((iblk m c 5 t : Vec Ideal S48x512 .bf16) (ix2 q o) : EReal)
      = ∑ q : Fin 16, xaK m c (row t p) q * (m ((c : Thread nD τ).loc main_arg5) (ix2 q (col t o)) : EReal) := by
  refine sum48 _ _ (fun q => ?_) (fun q hq => ?_)
  · have hq := q.isLt
    unfold splitAt
    refine congrArg₂ (fun u v : EReal => u * v) ?_ ((iblk5_apply m c t _ o).trans (v1_apply m c q (col t o)))
    rw [pay2_apply_first, pay1_block, row_rowStart]
  · unfold splitAt
    rw [pay2_apply_rest _ _ _ _ _ hq (fun q => by rw [pay1_block]; exact h _ _), zero_mul]

theorem yAt_apply (h : ∀ p q, IsReal (xaK m c p q)) (t : Fin cfg0.N) (p : Fin 512) (o : Fin 512) :
    yAt m c t (ix2 p o) = yArr (V m c main_v2) (V m c main_v3) (m ((c : Thread nD τ).loc main_arg2)) (V m c main_v4)
      (m ((c : Thread nD τ).loc main_arg4)) (m ((c : Thread nD τ).loc main_arg5)) (row t p) (col t o) := by
  unfold yAt
  refine (pay3_apply _ _ _ _ _ _ p o).trans ?_
  unfold yArr
  refine congrArg₂ (fun u v : EReal => u + v) (congrArg₂ (fun u v : EReal => u * v) (Finset.sum_congr rfl fun k _ => ?_) ?_) ?_
  · exact congrArg₂ (fun u v : EReal => u * v) (iblk0_apply m c t p k) ((iblk2_apply m c t k o).trans (congrFun (V_main_arg2 m c) _))
  · exact congrArg₂ (fun u v : EReal => u * v) (iblk1_apply m c t p) (iblk3_apply m c t o)
  · exact congrArg (fun u : EReal => Ideal.ofBits .f32 0x40000000#32 * u) (up_apply m c h t p o)

/-- The second result is `xa`. -/
theorem final7 : (dats m 0 c).arrAt 7 cfg0.N = fun i : S4096x16.Idx => xaK m c (i 0) (i 1) := by
  refine (dats m 0 c).arrAt_eq_of_covers 7 _ (by decide +kernel) fun t hf y => ?_
  obtain ⟨e0, e1, e2, e3, e4, e5, e6, e7⟩ := idx t
  blk_simp
  rw [after0_7]
  obtain ⟨p, q, rfl⟩ : ∃ (p : Fin 512) (q : Fin 16), y = ix2 p q := ⟨y 0, y 1, eq_ix2 y⟩
  refine (xaAt_apply m c t p q).trans (congrArg₂ (xaK m c) ?_ ?_)
  · apply Fin.ext; blk_simp [e7, row]
  · apply Fin.ext; blk_simp [e7]

/-- The first result is `y`, where `xa` is finite. -/
theorem final6 (h : ∀ p q, IsReal (xaK m c p q)) : (dats m 0 c).arrAt 6 cfg0.N = fun i : S4096x3072.Idx =>
    yArr (V m c main_v2) (V m c main_v3) (m ((c : Thread nD τ).loc main_arg2)) (V m c main_v4)
      (m ((c : Thread nD τ).loc main_arg4)) (m ((c : Thread nD τ).loc main_arg5)) (i 0) (i 1) := by
  refine (dats m 0 c).arrAt_eq_of_covers 6 _ (by decide +kernel) fun t hf y => ?_
  obtain ⟨e0, e1, e2, e3, e4, e5, e6, e7⟩ := idx t
  blk_simp
  rw [after0_6]
  obtain ⟨p, o, rfl⟩ : ∃ (p : Fin 512) (o : Fin 512), y = ix2 p o := ⟨y 0, y 1, eq_ix2 y⟩
  refine (yAt_apply m c h t p o).trans (congrArg₂ (yArr _ _ _ _ _ _) ?_ ?_)
  · apply Fin.ext; blk_simp [e6, row]
  · apply Fin.ext; blk_simp [e6, col]

end Cert.KernelIdeal.Kern

end
-- ==== Proof.Ref.Value.lean ====
/- What the reference leaves in its two results, over the extended reals: `xa` and `y` of the model. Its one call of the
   body takes every array whole. -/
module

public import proofs.«01_k».proof.Proof.Model
public import proofs.«01_k».proof.Proof.Gen.ReferenceIdeal.Value
public import proofs.«01_k».proof.Proof.Gen.ReferenceIdeal.Skeleton
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Ref

open Cert.ReferenceIdeal Cert.ReferenceIdeal.Gen Cert.Model
open Idealize.ShloMosaic Idealize.ShloMosaic.TcCoe Idealize.SL.Sem
open Idealize.ShloMosaic.Pipeline (Dat)

/-! ## The body's two values at an index -/

theorem pay1_apply (x : Vec Ideal S4096x16384 .fp8e4m3) (a : Vec Ideal S16384x16 .bf16) (s : Vec Ideal S4096x1 .f32) (p : Fin 4096) (q : Fin 16) :
    k0_pay1 x a s (ix2 p q) = xaArr x s a p q := by
  unfold xaArr
  pointwise [k0_pay1]

theorem pay2_apply (x : Vec Ideal S4096x16384 .fp8e4m3) (w : Vec Ideal S16384x3072 .fp8e4m3) (s : Vec Ideal S4096x1 .f32)
    (ws : Vec Ideal S1x3072 .f32) (a : Vec Ideal S16384x16 .bf16) (b : Vec Ideal S16x3072 .bf16) (p : Fin 4096) (o : Fin 3072) :
    k0_pay2 x w s ws x a s b (ix2 p o) = yArr x s w ws a b p o := by
  unfold yArr
  simp only [← pay1_apply]
  unfold k0_pay2
  generalize k0_pay1 x a s = u
  pointwise

variable (m : (ℓ : Loc nD τ sig) → Buf (Elt Ideal) ℓ) (ρ : Dev nD → PrngReg)

/-! ## The arrays the body reads -/

theorem V_main_v1 (c : Dev nD) : V m c main_v1 = shapeCast S4096x16384 (bitcastToFloat (F := Ideal) .fp8e4m3 (m ((c : Thread nD τ).loc main_arg0))) shapeCasts_S4x1024x16384_S4096x16384 := by
  entry_read; rfl
theorem V_main_v2 (c : Dev nD) : V m c main_v2 = shapeCast S4096x1 (m ((c : Thread nD τ).loc main_arg1)) shapeCasts_S4x1024_S4096x1 := by
  entry_read; rfl
theorem V_main_v3 (c : Dev nD) : V m c main_v3 = shapeCast S1x3072 (m ((c : Thread nD τ).loc main_arg3)) shapeCasts_S3072_S1x3072 := by
  entry_read; rfl

variable (c : Dev nD)

/-! Each block is its whole array. -/

theorem index0 (a : Fin 2) : win0_0.index t0_0 a = 0 := rfl
theorem index1 (a : Fin 2) : win0_1.index t0_0 a = 0 := rfl
theorem index2 (a : Fin 2) : win0_2.index t0_0 a = 0 := rfl
theorem index3 (a : Fin 2) : win0_3.index t0_0 a = 0 := rfl
theorem index4 (a : Fin 2) : win0_4.index t0_0 a = 0 := rfl
theorem index5 (a : Fin 2) : win0_5.index t0_0 a = 0 := rfl

theorem iblk0 : (iblk m c 0 t0_0 : Vec Ideal S4096x16384 .fp8e4m3) = V m c main_v1 := by
  funext i; blk_ext [iblk, index0]
theorem iblk1 : (iblk m c 1 t0_0 : Vec Ideal S4096x1 .f32) = V m c main_v2 := by
  funext i; blk_ext [iblk, index1]
theorem iblk2 : (iblk m c 2 t0_0 : Vec Ideal S16384x3072 .fp8e4m3) = m ((c : Thread nD τ).loc main_arg2) := by
  rw [← V_main_arg2 m c]; funext i; blk_ext [iblk, index2]
theorem iblk3 : (iblk m c 3 t0_0 : Vec Ideal S1x3072 .f32) = V m c main_v3 := by
  funext i; blk_ext [iblk, index3]
theorem iblk4 : (iblk m c 4 t0_0 : Vec Ideal S16384x16 .bf16) = m ((c : Thread nD τ).loc main_arg4) := by
  rw [← V_main_arg4 m c]; funext i; blk_ext [iblk, index4]
theorem iblk5 : (iblk m c 5 t0_0 : Vec Ideal S16x3072 .bf16) = m ((c : Thread nD τ).loc main_arg5) := by
  rw [← V_main_arg5 m c]; funext i; blk_ext [iblk, index5]

/-! ## The two results -/

theorem out7 (x0 : Vec Ideal S4096x16384 .fp8e4m3) (x1 : Vec Ideal S4096x1 .f32) (x2 : Vec Ideal S16384x3072 .fp8e4m3)
    (x3 : Vec Ideal S1x3072 .f32) (x4 : Vec Ideal S16384x16 .bf16) (x5 : Vec Ideal S16x3072 .bf16) :
    out0_7 x0 x1 x2 x3 x4 x5 = k0_pay1 x0 x4 x1 := by
  frame_out

theorem out6 (x0 : Vec Ideal S4096x16384 .fp8e4m3) (x1 : Vec Ideal S4096x1 .f32) (x2 : Vec Ideal S16384x3072 .fp8e4m3)
    (x3 : Vec Ideal S1x3072 .f32) (x4 : Vec Ideal S16384x16 .bf16) (x5 : Vec Ideal S16x3072 .bf16) :
    out0_6 x0 x1 x2 x3 x4 x5 = k0_pay2 x0 x2 x1 x3 x0 x4 x1 x5 := by
  frame_out

/-- The second result is `xa`. -/
theorem final7 : (dats m 0 c).arrAt 7 cfg0.N = fun i : S4096x16.Idx =>
    xaArr (V m c main_v1) (V m c main_v2) (m ((c : Thread nD τ).loc main_arg4)) (i 0) (i 1) := by
  refine (dats m 0 c).arrAt_eq_of_after_last 7 t0_0 (by decide +kernel) _ fun j => ?_
  blk_simp
  rw [after0_7, out7, iblk0, iblk1, iblk4]
  obtain ⟨p, q, rfl⟩ : ∃ (p : Fin 4096) (q : Fin 16), j = ix2 p q := ⟨j 0, j 1, eq_ix2 j⟩
  exact pay1_apply _ _ _ p q

/-- The first result is `y`. -/
theorem final6 : (dats m 0 c).arrAt 6 cfg0.N = fun i : S4096x3072.Idx =>
    yArr (V m c main_v1) (V m c main_v2) (m ((c : Thread nD τ).loc main_arg2)) (V m c main_v3)
      (m ((c : Thread nD τ).loc main_arg4)) (m ((c : Thread nD τ).loc main_arg5)) (i 0) (i 1) := by
  refine (dats m 0 c).arrAt_eq_of_after_last 6 t0_0 (by decide +kernel) _ fun j => ?_
  blk_simp
  rw [after0_6, out6, iblk0, iblk1, iblk2, iblk3, iblk4, iblk5]
  obtain ⟨p, o, rfl⟩ : ∃ (p : Fin 4096) (o : Fin 3072), j = ix2 p o := ⟨j 0, j 1, eq_ix2 j⟩
  exact pay2_apply _ _ _ _ _ _ p o

end Cert.ReferenceIdeal.Ref

end
-- ==== Proof.Algebraic.lean ====
/- The value claim: from equal arguments with a finite x, scale of x and factor a, kernel and reference end with equal
   results. -/
module

public import proofs.«01_k».proof.Defs
public import proofs.«01_k».proof.Proof.Finite
public import proofs.«01_k».proof.Proof.Kern.Value
public import proofs.«01_k».proof.Proof.Ref.Value
public import Idealize.ShloMosaic.Adequacy
public import Idealize.ShloMosaic.Init

@[expose] public section

set_option maxRecDepth 16384

noncomputable section

namespace Cert.Proof

open Cert.Model
open Idealize.ShloMosaic Idealize.ShloMosaic.TcCoe Idealize.SL.Sem

section
open Cert.KernelIdeal Cert.KernelIdeal.Gen Cert.KernelIdeal.Kern

/-- A reshape of real numbers is real. -/
theorem isReal_shapeCast {s r : Shape} (v : s.Idx → EReal) (h : s.ShapeCasts r) (hv : ∀ i, IsReal (v i)) (i : r.Idx) :
    IsReal (shapeCast r v h i) := hv _

/-- Under the precondition the product of x and a, scaled, is real. -/
theorem isReal_xaK (m : (ℓ : Loc nD τ sig) → Buf (Elt Ideal) ℓ) (h : Cert.Pre_KernelIdeal_finite m) (c : Dev nD) (p : Fin 4096) (q : Fin 16) :
    IsReal (xaK m c p q) := by
  unfold xaK
  rw [V_main_v2, V_main_v3]
  exact isReal_xaArr _ _ _ (fun _ _ => isReal_shapeCast _ _ (Cert.Pre_finite.isReal_x _ _ _ _ _ _ (h c).1) _)
    (fun _ => isReal_shapeCast _ _ (Cert.Pre_finite.isReal_s _ _ _ _ _ _ (h c).2.1) _)
    (fun _ _ => Cert.Pre_finite.isReal_a _ _ _ _ _ _ (h c).2.2 _) p q

/-- The kernel's run: the results at what the pipeline leaves, the arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 6, (h.1 c).1 7, h.2 c⟩) (θ_run_and (run_main m g) (unchanged m g))

end

/-- Of arguments equal on both sides the reference's arrays are the kernel's. -/
theorem finals (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 Cert.ReferenceIdeal.cfg0.N = (Cert.KernelIdeal.Kern.dats m 0 c).arrAt 6 Cert.KernelIdeal.cfg0.N
    ∧ (Cert.ReferenceIdeal.Gen.dats m' 0 c).arrAt 7 Cert.ReferenceIdeal.cfg0.N = (Cert.KernelIdeal.Kern.dats m 0 c).arrAt 7 Cert.KernelIdeal.cfg0.N := by
  constructor
  · refine (Cert.ReferenceIdeal.Ref.final6 m' c).trans (Eq.trans ?_ (Cert.KernelIdeal.Kern.final6 m c (isReal_xaK m hpre c)).symm)
    rw [Cert.ReferenceIdeal.Ref.V_main_v1, Cert.ReferenceIdeal.Ref.V_main_v2, Cert.ReferenceIdeal.Ref.V_main_v3,
      Cert.KernelIdeal.Kern.V_main_v2, Cert.KernelIdeal.Kern.V_main_v3, Cert.KernelIdeal.Kern.V_main_v4, h0, h1, h2, h3, h4, h5]
  · refine (Cert.ReferenceIdeal.Ref.final7 m' c).trans (Eq.trans ?_ (Cert.KernelIdeal.Kern.final7 m c).symm)
    unfold Cert.KernelIdeal.Kern.xaK
    rw [Cert.ReferenceIdeal.Ref.V_main_v1, Cert.ReferenceIdeal.Ref.V_main_v2,
      Cert.KernelIdeal.Kern.V_main_v2, Cert.KernelIdeal.Kern.V_main_v3, h0, h1, h4]

theorem algebraic : Cert.algebraic_KernelIdeal_ReferenceIdeal_pre_finite := by
  intro m g m' g' hpre hm
  refine ⟨fun c => (Cert.KernelIdeal.Kern.dats m 0 c).arrAt 6 Cert.KernelIdeal.cfg0.N,
    fun c => (Cert.KernelIdeal.Kern.dats m 0 c).arrAt 7 Cert.KernelIdeal.cfg0.N, kernel_run m g, ?_⟩
  refine (θ_run _ _ _).mono (fun r h c => ?_) (Cert.ReferenceIdeal.Value.run_blocks m' g')
  obtain ⟨h0, h1, h2, h3, h4, h5⟩ := hm c
  have e := finals m m' hpre c h0 h1 h2 h3 h4 h5
  exact ⟨(h c).1.trans e.1, (h c).2.1.trans e.2, (h c).2.2⟩

end Cert.Proof

end
-- ==== Proof.KernBits.Run.lean ====
/- What one call of the kernel body does. The body is met in two cases: at the first point of a row of the grid
   (`cond0_0`) it stores the low-rank factor `x·a` and its three-term split, elsewhere it only reads the split a
   previous point left in the scratch. In both it stores its block of `y`. -/
module

public import proofs.«01_k».proof.Proof.Gen.Kernel.Frame
public import proofs.«01_k».proof.Proof.Gen.Kernel.Skeleton
public import Idealize.ShloMosaic.Lib.VecWindow
public import Idealize.ShloMosaic.Lib.WholeRead

@[expose] public section

set_option maxRecDepth 16384

noncomputable section

namespace Cert.Kernel.Kern

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-! ## The memrefs the body runs on -/

/-- Each window's current staging memref at point `t`, spelled as the pipeline passes it (`bodyAt0`), and its wholeness. -/
abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x16384 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x48 .bf16 := Memref.whole cc0_scratch0
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's two cases -/

/-- At the first point of a row the body leaves `x·a` (`k0_pay1`) in the second output's buffer, its split (`k0_pay2`) in
    the scratch and the block of `y` computed from that split (`k0_pay3`) in the first output's. -/
theorem runFirst (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S16x16384 .bf16) (harg6 : arg6.IsWhole) (arg7 : Memref sig .tc .vmem S48x512 .bf16) (harg7 : arg7.IsWhole) (arg8 : Memref sig .tc .vmem S512x512 .bf16) (harg8 : arg8.IsWhole) (arg9 : Memref sig .tc .vmem S512x16 .f32) (harg9 : arg9.IsWhole) (arg10 : Memref sig .tc .vmem S512x48 .bf16) (harg10 : arg10.IsWhole) (hc0 : cond0_0 i)
    (x0 : Vec F S512x16384 .fp8e4m3) (x1 : Vec F S512x1 .f32) (x2 : Vec F S16384x512 .fp8e4m3) (x3 : Vec F S1x512 .f32) (x4 : Vec F S16x16384 .bf16) (x5 : Vec F S48x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 x2 (k0_pay2 x4 x0 x1) x5 x1 x3) ∗ owns (c : Thread nD τ) arg9 fullShare (k0_pay1 x4 x0 x1) ∗ owns (c : Thread nD τ) arg10 fullShare (k0_pay2 x4 x0 x1)) -∗ K ⟨⟩))
      ⊢ wp frame (wpE (defs₀ (F := F)) Variants.none c none) E (cc0_lora_fp8 i arg2 harg2 arg3 harg3 arg4 harg4 arg5 harg5 arg6 harg6 arg7 harg7 arg8 harg8 arg9 harg9 arg10 harg10) K := by
  simp only [cc0_lora_fp8_eq_skeleton]; unfold cc0_lora_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  have e0 : ∀ inb, View.readAt (Elt F) arg2.view (Rect.unit (s := S512x16384) ![0, 0] ![512, 16384] inb).toLoadRect (harg2.unread x0) = x0 :=
    fun inb => (View.readAt_full (s := S512x16384) arg2.view _ inb).trans (harg2.read_unread _)
  have e1 : ∀ inb, View.readAt (Elt F) arg3.view (Rect.unit (s := S512x1) ![0, 0] ![512, 1] inb).toLoadRect (harg3.unread x1) = x1 :=
    fun inb => (View.readAt_full (s := S512x1) arg3.view _ inb).trans (harg3.read_unread _)
  have e2 : ∀ inb, View.readAt (Elt F) arg4.view (Rect.unit (s := S16384x512) ![0, 0] ![16384, 512] inb).toLoadRect (harg4.unread x2) = x2 :=
    fun inb => (View.readAt_full (s := S16384x512) arg4.view _ inb).trans (harg4.read_unread _)
  have e3 : ∀ inb, View.readAt (Elt F) arg5.view (Rect.unit (s := S1x512) ![0, 0] ![1, 512] inb).toLoadRect (harg5.unread x3) = x3 :=
    fun inb => (View.readAt_full (s := S1x512) arg5.view _ inb).trans (harg5.read_unread _)
  have e4 : ∀ inb, View.readAt (Elt F) arg6.view (Rect.unit (s := S16x16384) ![0, 0] ![16, 16384] inb).toLoadRect (harg6.unread x4) = x4 :=
    fun inb => (View.readAt_full (s := S16x16384) arg6.view _ inb).trans (harg6.read_unread _)
  have e5 : ∀ inb, View.readAt (Elt F) arg7.view (Rect.unit (s := S48x512) ![0, 0] ![48, 512] inb).toLoadRect (harg7.unread x5) = x5 :=
    fun inb => (View.readAt_full (s := S48x512) arg7.view _ inb).trans (harg7.read_unread _)
  have es : ∀ inb inb' w L, View.readCov (Val := Elt F) arg10.view (⟨Rect.unit (s := S512x48) ![0, 0] ![512, 48] inb', w⟩ :: L) (Rect.unit (s := S512x48) ![0, 0] ![512, 48] inb).toLoadRect = w :=
    fun inb inb' w L => View.readCov_full (s := S512x48) arg10.view inb inb' w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    sl_unfold_words
    simp only [e0, e1, e2, e3, e4, e5, es]
  isplitl [H7]
  · iexists _; isplitr; swap; · iexact H7
    ipureintro
    refine (View.read_writes_full _ _ _ _ _).trans ?_
    simp only [e0, e1, e2, e3, e4, e5, es]
  iexists _; isplitr; swap; · iexact HS0
  ipureintro
  refine (View.read_writes_full _ _ _ _ _).trans ?_
  simp only [e0, e1, e2, e3, e4, e5, es]

/-- At any other point the body leaves its block of `y`, computed from the split it finds in the scratch, and nothing
    else: the second output's buffer and the scratch stay as they were. -/
theorem runLater (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S16x16384 .bf16) (harg6 : arg6.IsWhole) (arg7 : Memref sig .tc .vmem S48x512 .bf16) (harg7 : arg7.IsWhole) (arg8 : Memref sig .tc .vmem S512x512 .bf16) (harg8 : arg8.IsWhole) (arg9 : Memref sig .tc .vmem S512x16 .f32) (harg9 : arg9.IsWhole) (arg10 : Memref sig .tc .vmem S512x48 .bf16) (harg10 : arg10.IsWhole) (hc0 : ¬cond0_0 i)
    (x0 : Vec F S512x16384 .fp8e4m3) (x1 : Vec F S512x1 .f32) (x2 : Vec F S16384x512 .fp8e4m3) (x3 : Vec F S1x512 .f32) (x4 : Vec F S16x16384 .bf16) (x5 : Vec F S48x512 .bf16) (x7 : Vec F S512x16 .f32) (xs : Vec F S512x48 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 x2 xs x5 x1 x3) ∗ owns (c : Thread nD τ) arg9 fullShare x7 ∗ owns (c : Thread nD τ) arg10 fullShare xs) -∗ K ⟨⟩))
      ⊢ wp frame (wpE (defs₀ (F := F)) Variants.none c none) E (cc0_lora_fp8 i arg2 harg2 arg3 harg3 arg4 harg4 arg5 harg5 arg6 harg6 arg7 harg7 arg8 harg8 arg9 harg9 arg10 harg10) K := by
  simp only [cc0_lora_fp8_eq_skeleton]; unfold cc0_lora_fp8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
  sl_exec (disch := first | sl_exact hc0)
  sl_step
  have e0 : ∀ inb, View.readAt (Elt F) arg2.view (Rect.unit (s := S512x16384) ![0, 0] ![512, 16384] inb).toLoadRect (harg2.unread x0) = x0 :=
    fun inb => (View.readAt_full (s := S512x16384) arg2.view _ inb).trans (harg2.read_unread _)
  have e1 : ∀ inb, View.readAt (Elt F) arg3.view (Rect.unit (s := S512x1) ![0, 0] ![512, 1] inb).toLoadRect (harg3.unread x1) = x1 :=
    fun inb => (View.readAt_full (s := S512x1) arg3.view _ inb).trans (harg3.read_unread _)
  have e2 : ∀ inb, View.readAt (Elt F) arg4.view (Rect.unit (s := S16384x512) ![0, 0] ![16384, 512] inb).toLoadRect (harg4.unread x2) = x2 :=
    fun inb => (View.readAt_full (s := S16384x512) arg4.view _ inb).trans (harg4.read_unread _)
  have e3 : ∀ inb, View.readAt (Elt F) arg5.view (Rect.unit (s := S1x512) ![0, 0] ![1, 512] inb).toLoadRect (harg5.unread x3) = x3 :=
    fun inb => (View.readAt_full (s := S1x512) arg5.view _ inb).trans (harg5.read_unread _)
  have e4 : ∀ inb, View.readAt (Elt F) arg6.view (Rect.unit (s := S16x16384) ![0, 0] ![16, 16384] inb).toLoadRect (harg6.unread x4) = x4 :=
    fun inb => (View.readAt_full (s := S16x16384) arg6.view _ inb).trans (harg6.read_unread _)
  have e5 : ∀ inb, View.readAt (Elt F) arg7.view (Rect.unit (s := S48x512) ![0, 0] ![48, 512] inb).toLoadRect (harg7.unread x5) = x5 :=
    fun inb => (View.readAt_full (s := S48x512) arg7.view _ inb).trans (harg7.read_unread _)
  have es : ∀ inb, View.readAt (Elt F) arg10.view (Rect.unit (s := S512x48) ![0, 0] ![512, 48] inb).toLoadRect (harg10.unread xs) = xs :=
    fun inb => (View.readAt_full (s := S512x48) arg10.view _ inb).trans (harg10.read_unread _)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    simp only [e0, e1, e2, e3, e4, e5, es]
  isplitl [H7]
  · iexists _; isplitr; · ipureintro; exact hf7
    iexact H7
  iexists _; isplitr; · ipureintro; exact harg10.read_unread _
  iexact HS0

end Cert.Kernel.Kern

end
-- ==== Proof.KernBits.Frame.lean ====
/- The run of the kernel, with what it leaves in both outputs. The grid walks a row's six points in turn: the first
   stores the row's `x·a` and its split, the other five leave both in place, so that the block of `x·a` written back
   after the row's last point is the one its first point stored. -/
module

public import proofs.«01_k».proof.Proof.KernBits.Run
public import Idealize.ShloMosaic.Lib.Pipeline.TableIdle
public import Idealize.ShloMosaic.Lib.Claim

@[expose] public section

set_option maxRecDepth 16384

noncomputable section

namespace Cert.Kernel.Kern

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the scratch hold -/

/-- The first point of the row point `t` lies in. -/
def rowStart (t : Fin cfg0.N) : Fin cfg0.N := ⟨t.val - t.val % 6, Nat.lt_of_le_of_lt (Nat.sub_le _ _) t.isLt⟩

theorem rowStart_first (t : Fin cfg0.N) (h : t.val % 6 = 0) : rowStart t = t := Fin.ext (by unfold rowStart; dsimp only; omega)

theorem rowStart_later (t : Fin cfg0.N) (h : ¬t.val % 6 = 0) :
    rowStart ⟨t.val - 1, Nat.lt_of_le_of_lt (Nat.sub_le _ _) t.isLt⟩ = rowStart t := Fin.ext (by unfold rowStart; dsimp only; omega)

/-- The block of `x·a` of point `t`'s row. -/
def xaAt (c : Dev nD) (t : Fin cfg0.N) : Vec F S512x16 .f32 :=
  k0_pay1 (iblk m c 4 (rowStart t)) (iblk m c 0 (rowStart t)) (iblk m c 1 (rowStart t))

/-- Its three-term split. -/
def splitAt (c : Dev nD) (t : Fin cfg0.N) : Vec F S512x48 .bf16 :=
  k0_pay2 (iblk m c 4 (rowStart t)) (iblk m c 0 (rowStart t)) (iblk m c 1 (rowStart t))

/-- The block of `y` of point `t`. -/
def yAt (c : Dev nD) (t : Fin cfg0.N) : Vec F S512x512 .bf16 :=
  k0_pay3 (iblk m c 0 t) (iblk m c 2 t) (splitAt m c t) (iblk m c 5 t) (iblk m c 1 t) (iblk m c 3 t)

theorem xaAt_later (c : Dev nD) (t : Fin cfg0.N) (h : ¬t.val % 6 = 0) :
    xaAt m c ⟨t.val - 1, Nat.lt_of_le_of_lt (Nat.sub_le _ _) t.isLt⟩ = xaAt m c t := by
  unfold xaAt; rw [rowStart_later t h]

theorem splitAt_later (c : Dev nD) (t : Fin cfg0.N) (h : ¬t.val % 6 = 0) :
    splitAt m c ⟨t.val - 1, Nat.lt_of_le_of_lt (Nat.sub_le _ _) t.isLt⟩ = splitAt m c t := by
  unfold splitAt; rw [rowStart_later t h]

/-- Before the first point the scratch holds anything; after any point, the split of that point's row. -/
def PhiS (c : Dev nD) : (n : ℕ) → n ≤ cfg0.N → sProp 𝕄
  | 0, _ => Pipeline.ΦA spec0 c
  | n + 1, hn => iprop(iprop(owns (c : Thread nD τ) scM0_0 fullShare (splitAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (splitAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (splitAt m c ⟨n - 1, by omega⟩)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `yAt` and `xaAt`; the invariant the class's
    (`PhiS`: the class's `ΦA` before the first point, then the scoped rest with the carried scratch at the row's split);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => xaAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yAt m c t := by dsimp only [dats]
theorem after0_7 (c : Dev nD) (t : Fin cfg0.N) : (dats m 0 c).after 7 t = xaAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-! ## The second output's buffer across a row -/

/-- The second output is idle — the body stores nothing into it — at the points that are not the first of a row. -/
theorem idle7 (t : Fin cfg0.N) : cfg0.idle 7 (cfg0.grid.coords t) = true ↔ ¬t.val % 6 = 0 := by
  rw [← hcond0_0 t]
  show (!(k0_cond1 (grid0.coords t) == 1#1)) = true ↔ _
  rw [Bool.not_eq_true', beq_eq_false_iff_ne]
  exact Iff.rfl

theorem flush7_false (t : Fin cfg0.N) (h : ¬t.val % 6 = 5) : (cfg0.win 7).flush t = false :=
  Bool.eq_false_iff.mpr fun hf => h ((flush0_7 t).mp hf)

/-- Inside a row the buffer holds something the body stored. -/
theorem fresh7 : ∀ n : ℕ, n < cfg0.N → ¬n % 6 = 0 → cfg0.fresh 7 n = false
  | 0, _, h => absurd rfl h
  | n + 1, hn, h => by
    have hn' : n < cfg0.N := Nat.lt_of_succ_lt hn
    rw [Pipeline.Cfg.fresh_succ cfg0 7 n hn', flush7_false ⟨n, hn'⟩ (by dsimp only; omega), Bool.false_or]
    by_cases h0 : n % 6 = 0
    · have hi : cfg0.idle 7 (cfg0.grid.coords ⟨n, hn'⟩) = false := Bool.eq_false_iff.mpr fun hi => (idle7 ⟨n, hn'⟩).mp hi h0
      rw [hi, Bool.false_and]
    · rw [fresh7 n hn' h0, Bool.and_false]

/-- At a point that is not the first of its row the second output's buffer holds the row's `x·a`. -/
theorem before0_7 (c : Dev nD) (t : Fin cfg0.N) (h0 : ¬t.val % 6 = 0) (d) : (dats m 0 c).before 7 t d = xaAt m c t := by
  rw [(dats m 0 c).before_out_traj 7 rfl (fun _ _ => rfl)
    (fun t _ hi _ => by rw [after0_7, after0_7]; exact (xaAt_later m c t ((idle7 t).mp hi)).symm) t.val t rfl d,
    fresh7 t.val t.isLt h0, if_neg Bool.false_ne_true, after0_7]
  exact xaAt_later m c t h0

/-- What the body leaves in the second output's buffer, as the pipeline asks for it: at the row's `x·a` at every point. -/
theorem leaves7 (c : Dev nD) (t : Fin cfg0.N) :
    owns (c : Thread nD τ) (ms0_7 t) fullShare ((dats m 0 c).after 7 t) ⊢ ((dats m 0 c).leavesExact 7 t : sProp 𝕄) := by
  unfold Pipeline.Dat.leavesExact
  cases hi : cfg0.idle 7 (cfg0.grid.coords t)
  · exact .rfl
  · cases hf : (cfg0.win 7).flush t
    · dsimp only
      rw [after0_7]
      iintro H
      iexists (xaAt m c t)
      rw [before0_7 m c t ((idle7 t).mp hi)]
      iexact H
    · exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: the inputs' memrefs hold their blocks; at the first point of a row it stores the row's `x·a`
    and its split (`runFirst`), at the others it finds both in place (`runLater`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases h0 : t.val % 6 = 0
  · unfold yAt
    have e7 : xaAt m c t = k0_pay1 (iblk m c 4 t) (iblk m c 0 t) (iblk m c 1 t) := by unfold xaAt; rw [rowStart_first t h0]
    have es : splitAt m c t = k0_pay2 (iblk m c 4 t) (iblk m c 0 t) (iblk m c 1 t) := by unfold splitAt; rw [rowStart_first t h0]
    simp only [Fin.eta]
    rw [e7, es]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    rw [PhiS_castSucc m c t, PhiS_pos m c _ _ hz]
    simp only [before0_7 m c t h0, splitAt_later m c t h0, Fin.eta]
    unfold yAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runLater c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (xaAt m c t) (splitAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono .rfl (sep_mono .rfl (sep_mono .rfl (leaves7 m c t)))))))))

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays end unchanged and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Kern

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kern.Frame
public import proofs.«01_k».proof.Proof.Algebraic
public import proofs.«01_k».proof.Proof.KernBits.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.facts,
  fun m g _ => Cert.Kernel.Kern.frame m g, fun m g _ => Cert.KernelIdeal.Kern.frame m g, fun m g _ => Cert.KernelIdeal.Kern.frame m g,
  fun m g _ => Cert.ReferenceIdeal.Gen.frame m g, fun m g _ => Cert.ReferenceIdeal.Gen.frame m g, trivial, algebraic⟩

end Cert.Proof

end
